-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S_ : Shape := ⟨0, ![]⟩
abbrev S8x2048x14x14 : Shape := ⟨4, ![8, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : IVec S_ 32) (main_arg1 : FVec F S8x2048x14x14 .f32) (main_arg2 : FVec F S80x300 .f32) (main_arg3 : FVec F S1024x2048 .f32) (main_arg4 : FVec F S1024x300 .f32) (main_arg5 : FVec F S1024x1024 .f32) (main_arg6 : FVec F S1024 .f32) (main_arg7 : FVec F S1x1024 .f32) (main_arg8 : FVec F S1 .f32) : IVec S_ 1 :=
  let main_v0 : FVec F S1024x1024 .f32 := Host.absf main_arg5
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024 .f32 := Host.absf main_arg6
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1x1024 .f32 := Host.absf main_arg7
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1 .f32 := Host.absf main_arg8
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S_ : Shape := ⟨0, ![]⟩
abbrev S8x2048x14x14 : Shape := ⟨4, ![8, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S8x2048x196 : Shape := ⟨3, ![8, 2048, 196]⟩
abbrev S8x80x2048 : Shape := ⟨3, ![8, 80, 2048]⟩
abbrev S1x2048x196 : Shape := ⟨3, ![1, 2048, 196]⟩
abbrev S1x80x2048 : Shape := ⟨3, ![1, 80, 2048]⟩
abbrev S1x81920 : Shape := ⟨2, ![1, 81920]⟩
abbrev S80x1024 : Shape := ⟨2, ![80, 1024]⟩
abbrev S2048x196 : Shape := ⟨2, ![2048, 196]⟩
abbrev S196x1024 : Shape := ⟨2, ![196, 1024]⟩
abbrev S196x16384 : Shape := ⟨2, ![196, 16384]⟩
abbrev S1x16384 : Shape := ⟨2, ![1, 16384]⟩
abbrev S196 : Shape := ⟨1, ![196]⟩
abbrev S196x1 : Shape := ⟨2, ![196, 1]⟩
abbrev S196x80 : Shape := ⟨2, ![196, 80]⟩
abbrev S80 : Shape := ⟨1, ![80]⟩
abbrev S1x80 : Shape := ⟨2, ![1, 80]⟩
abbrev S80x2048 : Shape := ⟨2, ![80, 2048]⟩

abbrev nBuf : Space → Nat
  | .hbm => 11
  | .vmem => 11
  | .smem => 0
  | _ => 0

abbrev bufTy : (tb : Table) → Fin (tcTables nBuf tb) → BufTy
  | .hbm, ⟨0, _⟩ => ⟨S_, .i32⟩
  | .hbm, ⟨1, _⟩ => ⟨S8x2048x14x14, .f32⟩
  | .hbm, ⟨2, _⟩ => ⟨S80x300, .f32⟩
  | .hbm, ⟨3, _⟩ => ⟨S1024x2048, .f32⟩
  | .hbm, ⟨4, _⟩ => ⟨S1024x300, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S8x2048x196, .f32⟩
  | .hbm, ⟨10, _⟩ => ⟨S8x80x2048, .f32⟩
  | .local _ .vmem, ⟨0, _⟩ => ⟨S1x2048x196, .f32⟩
  | .local _ .vmem, ⟨1, _⟩ => ⟨S1x2048x196, .f32⟩
  | .local _ .vmem, ⟨2, _⟩ => ⟨S1024x2048, .f32⟩
  | .local _ .vmem, ⟨3, _⟩ => ⟨S80x300, .f32⟩
  | .local _ .vmem, ⟨4, _⟩ => ⟨S1024x300, .f32⟩
  | .local _ .vmem, ⟨5, _⟩ => ⟨S1024x1024, .f32⟩
  | .local _ .vmem, ⟨6, _⟩ => ⟨S1x1024, .f32⟩
  | .local _ .vmem, ⟨7, _⟩ => ⟨S1x80x2048, .f32⟩
  | .local _ .vmem, ⟨8, _⟩ => ⟨S1x80x2048, .f32⟩
  | .local _ .vmem, ⟨9, _⟩ => ⟨S1x81920, .f32⟩
  | .local _ .vmem, ⟨10, _⟩ => ⟨S1x1024, .f32⟩
  | _, _ => ⟨S_, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x196 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x80x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S_ : Shape := ⟨0, ![]⟩
abbrev S8x2048x14x14 : Shape := ⟨4, ![8, 2048, 14, 14]⟩
abbrev S80x300 : Shape := ⟨2, ![80, 300]⟩
abbrev S1024x2048 : Shape := ⟨2, ![1024, 2048]⟩
abbrev S1024x300 : Shape := ⟨2, ![1024, 300]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S8x14x14x2048 : Shape := ⟨4, ![8, 14, 14, 2048]⟩
abbrev S8x14x14x1024 : Shape := ⟨4, ![8, 14, 14, 1024]⟩
abbrev S300x1024 : Shape := ⟨2, ![300, 1024]⟩
abbrev S80x1024 : Shape := ⟨2, ![80, 1024]⟩
abbrev S8x14x14x1x1024 : Shape := ⟨5, ![8, 14, 14, 1, 1024]⟩
abbrev S1x1x1x80x1024 : Shape := ⟨5, ![1, 1, 1, 80, 1024]⟩
abbrev S8x14x14x80x1024 : Shape := ⟨5, ![8, 14, 14, 80, 1024]⟩
abbrev S1x1x1x1x1024 : Shape := ⟨5, ![1, 1, 1, 1, 1024]⟩
abbrev S8x14x14x80 : Shape := ⟨4, ![8, 14, 14, 80]⟩
abbrev S8x196x80 : Shape := ⟨3, ![8, 196, 80]⟩
abbrev S8x80 : Shape := ⟨2, ![8, 80]⟩
abbrev S8x1x80 : Shape := ⟨3, ![8, 1, 80]⟩
abbrev S8x80x2048 : Shape := ⟨3, ![8, 80, 2048]⟩

abbrev nBuf : Space → Nat
  | .hbm => 45
  | .vmem => 0
  | .smem => 0
  | _ => 0

abbrev bufTy : (tb : Table) → Fin (tcTables nBuf tb) → BufTy
  | .hbm, ⟨0, _⟩ => ⟨S_, .i32⟩
  | .hbm, ⟨1, _⟩ => ⟨S8x2048x14x14, .f32⟩
  | .hbm, ⟨2, _⟩ => ⟨S80x300, .f32⟩
  | .hbm, ⟨3, _⟩ => ⟨S1024x2048, .f32⟩
  | .hbm, ⟨4, _⟩ => ⟨S1024x300, .f32⟩
  | .hbm, ⟨5, _⟩ => ⟨S1024x1024, .f32⟩
  | .hbm, ⟨6, _⟩ => ⟨S1024, .f32⟩
  | .hbm, ⟨7, _⟩ => ⟨S1x1024, .f32⟩
  | .hbm, ⟨8, _⟩ => ⟨S1, .f32⟩
  | .hbm, ⟨9, _⟩ => ⟨S8x14x14x2048, .f32⟩
  | .hbm, ⟨10, _⟩ => ⟨S8x14x14x1024, .f32⟩
  | .hbm, ⟨11, _⟩ => ⟨S300x1024, .f32⟩
  | .hbm, ⟨12, _⟩ => ⟨S80x1024, .f32⟩
  | .hbm, ⟨13, _⟩ => ⟨S8x14x14x1x1024, .f32⟩
  | .hbm, ⟨14, _⟩ => ⟨S1x1x1x80x1024, .f32⟩
  | .hbm, ⟨15, _⟩ => ⟨S8x14x14x80x1024, .f32⟩
  | .hbm, ⟨16, _⟩ => ⟨S8x14x14x80x1024, .f32⟩
  | .hbm, ⟨17, _⟩ => ⟨S8x14x14x80x1024, .f32⟩
  | .hbm, ⟨18, _⟩ => ⟨S8x14x14x80x1024, .f32⟩
  | .hbm, ⟨19, _⟩ => ⟨S8x14x14x80x1024, .f32⟩
  | .hbm, ⟨20, _⟩ => ⟨S1x1x1x1x1024, .f32⟩
  | .hbm, ⟨21, _⟩ => ⟨S8x14x14x80x1024, .f32⟩
  | .hbm, ⟨22, _⟩ => ⟨S8x14x14x80x1024, .f32⟩
  | .hbm, ⟨23, _⟩ => ⟨S1024, .f32⟩
  | .hbm, ⟨24, _⟩ => ⟨S8x14x14x80, .f32⟩
  | .hbm, ⟨25, _⟩ => ⟨S_, .f32⟩
  | .hbm, ⟨26, _⟩ => ⟨S8x14x14x80, .f32⟩
  | .hbm, ⟨27, _⟩ => ⟨S8x14x14x80, .f32⟩
  | .hbm, ⟨28, _⟩ => ⟨S8x196x80, .f32⟩
  | .hbm, ⟨29, _⟩ => ⟨S_, .f32⟩
  | .hbm, ⟨30, _⟩ => ⟨S8x80, .f32⟩
  | .hbm, ⟨31, _⟩ => ⟨S_, .f32⟩
  | .hbm, ⟨32, _⟩ => ⟨S8x80, .f32⟩
  | .hbm, ⟨33, _⟩ => ⟨S8x80, .f32⟩
  | .hbm, ⟨34, _⟩ => ⟨S8x1x80, .f32⟩
  | .hbm, ⟨35, _⟩ => ⟨S8x196x80, .f32⟩
  | .hbm, ⟨36, _⟩ => ⟨S8x196x80, .f32⟩
  | .hbm, ⟨37, _⟩ => ⟨S8x196x80, .f32⟩
  | .hbm, ⟨38, _⟩ => ⟨S_, .f32⟩
  | .hbm, ⟨39, _⟩ => ⟨S8x80, .f32⟩
  | .hbm, ⟨40, _⟩ => ⟨S8x1x80, .f32⟩
  | .hbm, ⟨41, _⟩ => ⟨S8x196x80, .f32⟩
  | .hbm, ⟨42, _⟩ => ⟨S8x196x80, .f32⟩
  | .hbm, ⟨43, _⟩ => ⟨S8x14x14x80, .f32⟩
  | .hbm, ⟨44, _⟩ => ⟨S8x80x2048, .f32⟩
  | _, _ => ⟨S_, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Proof.Block.lean ====
/- What one grid point computes, in closed form: the 80 columns of coefficients as one list indexed by the class, and
   the block of the result made from them. Every fact is stated once for all classes and rows. -/
module

public import proofs.«01_k».proof.Proof.Gen.KernelIdeal.Value

@[expose] public section

set_option maxRecDepth 16384

noncomputable section

namespace Cert.KernelIdeal.Block

open Cert.KernelIdeal Cert.KernelIdeal.Gen Idealize.ShloMosaic Idealize.ShloMosaic.TcCoe

variable {F : FTy → Type} [FloatOps F]

/-- A group of sixteen classes lies inside the row that keeps the 80 projected word vectors end to end. -/
theorem slices_group (g : Fin 5) : S1x81920.Slices ![0, 16384 * g.val] S1x16384 :=
  ⟨rfl, by
    have hg := g.isLt
    intro a
    match a with
    | ⟨0, _⟩ => show 0 + 1 ≤ 1; omega
    | ⟨1, _⟩ => show 16384 * g.val + 16384 ≤ 81920; omega⟩

/-- One class of a group lies inside the group's tile of lanes. -/
theorem slices_class (k : Fin 16) : S196x16384.Slices ![0, 1024 * k.val] S196x1024 :=
  ⟨rfl, by
    have hk := k.isLt
    intro a
    match a with
    | ⟨0, _⟩ => show 0 + 196 ≤ 196; omega
    | ⟨1, _⟩ => show 1024 * k.val + 1024 ≤ 16384; omega⟩

/-- The features of one image projected: position `s`, lane `m`. -/
def feat (x0 : Vec F S1x2048x196 .f32) (x1 : Vec F S1024x2048 .f32) : FVec F S196x1024 .f32 :=
  matmul dot_S2048x196_S1024x2048_S196x1024_0_1_1_0_n_n none (shapeCast S2048x196 x0 shapeCasts_S1x2048x196_S2048x196) x1
    (constant S196x1024 .f32 0x00000000#32)

/-- Sixteen copies of the projected features side by side. -/
def rep (f : FVec F S196x1024 .f32) : FVec F S196x16384 .f32 :=
  concatenate S196x16384 1 (List.ofFn fun _ : Fin 16 => ⟨S196x1024, f⟩)
    concatenates_S196x1024_S196x1024_S196x1024_S196x1024_S196x1024_S196x1024_S196x1024_S196x1024_S196x1024_S196x1024_S196x1024_S196x1024_S196x1024_S196x1024_S196x1024_S196x1024_S196x16384_d1

/-- The hyperbolic tangents of one group of sixteen classes. -/
def tile (r : FVec F S196x16384 .f32) (fd : Vec F S1x81920 .f32) (g : Fin 5) : FVec F S196x16384 .f32 :=
  tanh (mulf r (broadcastTo S196x16384 (extractStridedSlice S1x16384 ![0, 16384 * g.val] fd (slices_group g))
    broadcasts_S1x16384_S196x16384))

/-- One class's column of coefficients, read off its group's tile. -/
def col (t : FVec F S196x16384 .f32) (v : Vec F S1x1024 .f32) (k : Fin 16) : FVec F S196x1 .f32 :=
  shapeCast S196x1 (multiReduction .add [1] S196
    (mulf (extractStridedSlice S196x1024 ![0, 1024 * k.val] t (slices_class k)) (broadcastTo S196x1024 v broadcasts_S1x1024_S196x1024))
    0x00000000#32 reduces_S196x1024_S196 (.inl rfl) rfl) shapeCasts_S196_S196x1

/-- The group of a class. -/
def grp (c : Fin 80) : Fin 5 := ⟨c.val / 16, by have := c.isLt; omega⟩

/-- The place of a class in its group. -/
def pos (c : Fin 80) : Fin 16 := ⟨c.val % 16, by omega⟩

/-- The columns side by side have the shape of the coefficients. -/
theorem concatenates_cols (f : Fin 80 → FVec F S196x1 .f32) :
    Shape.Concatenates ((List.ofFn fun c : Fin 80 => (⟨S196x1, f c⟩ : (s : Shape) × (s.Idx → F .f32))).map (·.1)) S196x80 1 := by
  have e : (List.ofFn fun c : Fin 80 => (⟨S196x1, f c⟩ : (s : Shape) × (s.Idx → F .f32))).map (·.1) = List.replicate 80 S196x1 := by
    rw [List.map_ofFn]; exact List.ofFn_const 80 S196x1
  rw [e]
  decide

/-- The coefficients of every position and class. -/
def coef (r : FVec F S196x16384 .f32) (fd : Vec F S1x81920 .f32) (v : Vec F S1x1024 .f32) : FVec F S196x80 .f32 :=
  concatenate S196x80 1 (List.ofFn fun c : Fin 80 => ⟨S196x1, col (tile r fd (grp c)) v (pos c)⟩) (concatenates_cols _)

/-- The softmax over the positions, contracted with the features. -/
def attend (x0 : Vec F S1x2048x196 .f32) (w : FVec F S196x80 .f32) : FVec F S1x80x2048 .f32 :=
  k0_pay1 (shapeCast S2048x196 x0 shapeCasts_S1x2048x196_S2048x196) w
    (shapeCast S1x80 (multiReduction .maximumf [0] S80 w 0xFF800000#32 reduces_S196x80_S80 (.inl rfl) rfl) shapeCasts_S80_S1x80)

/-- The block of the result that a grid point writes. -/
def blockOf (x0 : Vec F S1x2048x196 .f32) (x1 : Vec F S1024x2048 .f32) (fd : Vec F S1x81920 .f32) (v : Vec F S1x1024 .f32) :
    FVec F S1x80x2048 .f32 :=
  attend x0 (coef (rep (feat x0 x1)) fd v)

/-- Row `c` lies inside the projected word vectors. -/
theorem slices_row (c : Fin 80) : S80x1024.Slices ![c.val, 0] S1x1024 :=
  ⟨rfl, by
    have hc := c.isLt
    intro a
    match a with
    | ⟨0, _⟩ => show c.val + 1 ≤ 80; omega
    | ⟨1, _⟩ => show 0 + 1024 ≤ 1024; omega⟩

/-- The stretch of class `c` lies inside the row that keeps them end to end. -/
theorem inb_row (c : Fin 80) (a : Fin 2) : (![0, 1024 * c.val] : Fin 2 → ℕ) a + S1x1024.size a ≤ S1x81920.size a := by
  have hc := c.isLt
  match a with
  | ⟨0, _⟩ => show 0 + 1 ≤ 1; omega
  | ⟨1, _⟩ => show 1024 * c.val + 1024 ≤ 81920; omega

/-- What the first grid point stores for class `c`: row `c` of the projected word vectors, at lane `1024 c`. -/
def rowPiece (w : FVec F S80x1024 .f32) (c : Fin 80) : View.Piece (Elt F) S1x81920 .f32 :=
  ⟨Rect.unit ![0, 1024 * c.val] S1x1024.size (inb_row c),
    shapeCast S1x1024 (extractStridedSlice S1x1024 ![c.val, 0] w (slices_row c)) shapeCasts_S1x1024_S1x1024⟩

end Cert.KernelIdeal.Block
-- ==== Proof.Body.lean ====
/- What the body leaves at a grid point, in the closed form of the module Block: at the first point and at every later one. -/
module

public import proofs.«01_k».proof.Proof.Block
public import Idealize.ShloMosaic.Lib.WholeRead
public import Idealize.ShloMosaic.Lib.VecWindow
public import Idealize.ShloMosaic.Lib.Pointwise

@[expose] public section

set_option maxRecDepth 65536

noncomputable section

namespace Cert.KernelIdeal.Block

open Cert.KernelIdeal Cert.KernelIdeal.Gen Idealize.ShloMosaic Idealize.ShloMosaic.TcCoe

variable {F : FTy → Type} [FloatOps F]

variable (c : Dev nD) (i : grid0.Coords) (arg1 : Memref sig .tc .vmem S1x2048x196 .f32) (harg1 : arg1.IsWhole)
  (arg2 : Memref sig .tc .vmem S1024x2048 .f32) (harg2 : arg2.IsWhole) (arg3 : Memref sig .tc .vmem S80x300 .f32) (harg3 : arg3.IsWhole)
  (arg4 : Memref sig .tc .vmem S1024x300 .f32) (harg4 : arg4.IsWhole) (arg5 : Memref sig .tc .vmem S1024x1024 .f32) (harg5 : arg5.IsWhole)
  (arg6 : Memref sig .tc .vmem S1x1024 .f32) (harg6 : arg6.IsWhole) (arg7 : Memref sig .tc .vmem S1x80x2048 .f32) (harg7 : arg7.IsWhole)
  (arg8 : Memref sig .tc .vmem S1x81920 .f32) (harg8 : arg8.IsWhole) (arg9 : Memref sig .tc .vmem S1x1024 .f32) (harg9 : arg9.IsWhole)
  (x0 : Vec F S1x2048x196 .f32) (x1 : Vec F S1024x2048 .f32) (x2 : Vec F S80x300 .f32) (x3 : Vec F S1024x300 .f32)
  (x4 : Vec F S1024x1024 .f32) (x5 : Vec F S1x1024 .f32) (xs0 : Vec F S1x81920 .f32) (xs1 : Vec F S1x1024 .f32)

/-- A load of a whole buffer reads what the buffer holds. -/
theorem load_whole {s : Shape} {sp : Space} {M : Memref sig .tc sp s .f32} (h : M.IsWhole) {off : Fin s.rank → ℕ}
    (inb : ∀ a, off a + s.size a ≤ s.size a) (X : s.Idx → Elt F .f32) :
    View.readAt (Elt F) M.view (Rect.unit (s := s) off s.size inb).toLoadRect (h.unread X) = X := by
  rw [View.readAt_full, h.read_unread]

/-- A later point writes its block from what the scratch holds. -/
theorem out_later (hc0 : ¬cond0_0 i) :
    out0_B_6 c i arg1 harg1 arg2 harg2 arg3 harg3 arg4 harg4 arg5 harg5 arg6 harg6 arg7 harg7 arg8 harg8 arg9 harg9 hc0 x0 x1 x2 x3 x4 x5 xs0 xs1
      = blockOf x0 x1 xs0 xs1 := by
  have e : out0_B_6 c i arg1 harg1 arg2 harg2 arg3 harg3 arg4 harg4 arg5 harg5 arg6 harg6 arg7 harg7 arg8 harg8 arg9 harg9 hc0 x0 x1 x2 x3 x4 x5 xs0 xs1
      = View.read (Elt F) VO0_6 (VO0_6.writes (Elt F) VO0_6.junk
          [⟨Rect.unit ![0, 0, 0] S1x80x2048.size inb_S1x80x2048_S1x80x2048_0_0_0,
            blockOf
              (View.readAt (Elt F) arg1.view (Rect.unit ![0, 0, 0] S1x2048x196.size inb_S1x2048x196_S1x2048x196_0_0_0).toLoadRect (harg1.unread x0))
              (View.readAt (Elt F) arg2.view (Rect.unit ![0, 0] S1024x2048.size inb_S1024x2048_S1024x2048_0_0).toLoadRect (harg2.unread x1))
              (View.readAt (Elt F) arg8.view (Rect.unit ![0, 0] S1x81920.size inb_S1x81920_S1x81920_0_0).toLoadRect (harg8.unread xs0))
              (View.readAt (Elt F) arg9.view (Rect.unit ![0, 0] S1x1024.size inb_S1x1024_S1x1024_0_0).toLoadRect (harg9.unread xs1))⟩]) := rfl
  rw [e, load_whole, load_whole, load_whole, load_whole, View.read_writes_full]

/-- The pieces the first point stores into the first scratch, one for each class, the last class first. -/
def rowPieces (w : FVec F S80x1024 .f32) : List (View.Piece (Elt F) S1x81920 .f32) :=
  List.ofFn fun n : Fin 80 => rowPiece w n.rev

/-- The first point stores the rows of the projected word vectors. -/
theorem pieces_eq : kernelRun0_A.sl.HS0_80 c arg3 harg3 arg4 harg4 x2 x3 = rowPieces (k0_pay2 x2 x3) := by
  have e : kernelRun0_A.sl.HS0_80 c arg3 harg3 arg4 harg4 x2 x3 = rowPieces (k0_pay2
      (View.readAt (Elt F) arg3.view (Rect.unit ![0, 0] S80x300.size inb_S80x300_S80x300_0_0).toLoadRect (harg3.unread x2))
      (View.readAt (Elt F) arg4.view (Rect.unit ![0, 0] S1024x300.size inb_S1024x300_S1024x300_0_0).toLoadRect (harg4.unread x3))) := rfl
  rw [e, load_whole, load_whole]

/-- The projected word vectors end to end in one row: class `l / 1024` at lane `l % 1024`. -/
def flat (w : FVec F S80x1024 .f32) : Vec F S1x81920 .f32 := fun y =>
  w (ix2 (⟨(y 1).val / 1024, by have h : (y 1).val < 81920 := (y 1).isLt; omega⟩ : Fin 80) (⟨(y 1).val % 1024, by omega⟩ : Fin 1024))

/-- A class's piece holds its stretch of the row. -/
theorem rowPiece_eq (w : FVec F S80x1024 .f32) (k : Fin 80) (x : S1x1024.Idx) :
    (rowPiece w k).2 x = flat w ((rowPiece w k).1.emb x) := by
  have h1 : ((rowPiece w k).1.emb x 1).val = 1024 * k.val + 1 * (x 1).val := rfl
  have hx : (x 1).val < 1024 := (x 1).isLt
  show shapeCast S1x1024 (extractStridedSlice S1x1024 ![k.val, 0] w (slices_row k)) shapeCasts_S1x1024_S1x1024 x = _
  rw [shapeCast_self]
  unfold flat
  refine extractStridedSlice_apply _ w (slices_row k) x _ ?_
  intro a
  have h0 : (x 0).val < 1 := (x 0).isLt
  match a with
  | ⟨0, _⟩ => show ((rowPiece w k).1.emb x 1).val / 1024 = k.val + (x 0).val; rw [h1]; omega
  | ⟨1, _⟩ => show ((rowPiece w k).1.emb x 1).val % 1024 = 0 + (x 1).val; rw [h1]; omega

/-- Each piece holds its stretch of the row. -/
theorem rowPieces_eq (w : FVec F S80x1024 .f32) (p : View.Piece (Elt F) S1x81920 .f32) (hp : p ∈ rowPieces w) (x : p.1.shape.Idx) :
    p.2 x = flat w (p.1.emb x) := by
  obtain ⟨n, rfl⟩ := (List.mem_ofFn' _ _).1 hp
  exact rowPiece_eq w n.rev x

/-- The pieces' rows make up the whole row. -/
theorem canon_rowPieces (w : FVec F S80x1024 .f32) (h : ∀ y, ∃ p ∈ rowPieces w, y ∈ p.1.set) : View.canon (rowPieces w) = flat w :=
  funext fun y => View.canon_apply_of_pieces (flat w) _ (rowPieces_eq w) y (h y)

/-- Every lane lies in some class's stretch. -/
theorem rowPieces_cover (w : FVec F S80x1024 .f32) (y : S1x81920.Idx) : ∃ p ∈ rowPieces w, y ∈ p.1.set := by
  have h0 : (y 0).val < 1 := (y 0).isLt
  have h1 : (y 1).val < 81920 := (y 1).isLt
  have hk : (y 1).val / 1024 < 80 := by omega
  refine ⟨rowPiece w ⟨(y 1).val / 1024, hk⟩, (List.mem_ofFn' _ _).2 ⟨Fin.rev ⟨(y 1).val / 1024, hk⟩, by show rowPiece w _ = _; rw [Fin.rev_rev]⟩, ?_⟩
  show y ∈ (Rect.unit (s := S1x81920) ![0, 1024 * ((y 1).val / 1024)] S1x1024.size (inb_row ⟨(y 1).val / 1024, hk⟩)).set
  rw [Rect.mem_set_unit]
  intro a
  match a with
  | ⟨0, _⟩ => exact ⟨by show 0 ≤ (y 0).val; omega, by show (y 0).val < 0 + 1; omega⟩
  | ⟨1, _⟩ => exact ⟨by show 1024 * ((y 1).val / 1024) ≤ (y 1).val; omega, by show (y 1).val < 1024 * ((y 1).val / 1024) + 1024; omega⟩

/-- The first point leaves the projected word vectors in the first scratch. -/
theorem words_first (hc0 : cond0_0 i) :
    sout0_A_0 c i arg1 harg1 arg2 harg2 arg3 harg3 arg4 harg4 arg5 harg5 arg6 harg6 arg7 harg7 arg8 harg8 arg9 harg9 hc0 x0 x1 x2 x3 x4 x5
      = flat (k0_pay2 x2 x3) := by
  have e : sout0_A_0 c i arg1 harg1 arg2 harg2 arg3 harg3 arg4 harg4 arg5 harg5 arg6 harg6 arg7 harg7 arg8 harg8 arg9 harg9 hc0 x0 x1 x2 x3 x4 x5
      = View.read (Elt F) VS0_0 (VS0_0.writes (Elt F) VS0_0.junk (kernelRun0_A.sl.HS0_80 c arg3 harg3 arg4 harg4 x2 x3)) := rfl
  rw [e, pieces_eq, View.read_writes_eq_canon _ _ _ (rowPieces_cover _), canon_rowPieces _ (rowPieces_cover _)]

/-- The first point leaves the combined weights in the second scratch. -/
theorem weights_first (hc0 : cond0_0 i) :
    sout0_A_1 c i arg1 harg1 arg2 harg2 arg3 harg3 arg4 harg4 arg5 harg5 arg6 harg6 arg7 harg7 arg8 harg8 arg9 harg9 hc0 x0 x1 x2 x3 x4 x5
      = k0_pay89 x5 x4 := by
  have e : sout0_A_1 c i arg1 harg1 arg2 harg2 arg3 harg3 arg4 harg4 arg5 harg5 arg6 harg6 arg7 harg7 arg8 harg8 arg9 harg9 hc0 x0 x1 x2 x3 x4 x5
      = View.read (Elt F) VS0_1 (VS0_1.writes (Elt F) VS0_1.junk (kernelRun0_A.sl.HS1_1 c arg5 harg5 arg6 harg6 x4 x5)) := rfl
  rw [e, kernelRun0_A.sl.HS1_1, View.read_writes_full, load_whole, load_whole]

/-- The first point writes its block from what it has just stored. -/
theorem out_first (hc0 : cond0_0 i) :
    out0_A_6 c i arg1 harg1 arg2 harg2 arg3 harg3 arg4 harg4 arg5 harg5 arg6 harg6 arg7 harg7 arg8 harg8 arg9 harg9 hc0 x0 x1 x2 x3 x4 x5
      = blockOf x0 x1 (flat (k0_pay2 x2 x3)) (k0_pay89 x5 x4) := by
  have e : out0_A_6 c i arg1 harg1 arg2 harg2 arg3 harg3 arg4 harg4 arg5 harg5 arg6 harg6 arg7 harg7 arg8 harg8 arg9 harg9 hc0 x0 x1 x2 x3 x4 x5
      = View.read (Elt F) VO0_6 (VO0_6.writes (Elt F) VO0_6.junk
          [⟨Rect.unit ![0, 0, 0] S1x80x2048.size inb_S1x80x2048_S1x80x2048_0_0_0,
            blockOf
              (View.readAt (Elt F) arg1.view (Rect.unit ![0, 0, 0] S1x2048x196.size inb_S1x2048x196_S1x2048x196_0_0_0).toLoadRect (harg1.unread x0))
              (View.readAt (Elt F) arg2.view (Rect.unit ![0, 0] S1024x2048.size inb_S1024x2048_S1024x2048_0_0).toLoadRect (harg2.unread x1))
              (arg8.view.readCov (kernelRun0_A.sl.HS0_80 c arg3 harg3 arg4 harg4 x2 x3)
                (Rect.unit ![0, 0] S1x81920.size inb_S1x81920_S1x81920_0_0).toLoadRect)
              (arg9.view.readCov (kernelRun0_A.sl.HS1_1 c arg5 harg5 arg6 harg6 x4 x5)
                (Rect.unit ![0, 0] S1x1024.size inb_S1x1024_S1x1024_0_0).toLoadRect)⟩]) := rfl
  have e8 : arg8.view.readCov (kernelRun0_A.sl.HS0_80 c arg3 harg3 arg4 harg4 x2 x3)
      (Rect.unit ![0, 0] S1x81920.size inb_S1x81920_S1x81920_0_0).toLoadRect = flat (k0_pay2 x2 x3) := by
    rw [pieces_eq, View.readCov_eq_canon_ld _ _ _ (rowPieces_cover _), canon_rowPieces _ (rowPieces_cover _)]
    exact View.ld_unit_zero (by funext a; match a with | ⟨0, _⟩ => rfl | ⟨1, _⟩ => rfl) _ _
  have e9 : arg9.view.readCov (kernelRun0_A.sl.HS1_1 c arg5 harg5 arg6 harg6 x4 x5)
      (Rect.unit ![0, 0] S1x1024.size inb_S1x1024_S1x1024_0_0).toLoadRect = k0_pay89 x5 x4 := by
    rw [kernelRun0_A.sl.HS1_1, View.readCov_full, load_whole, load_whole]
  rw [e, load_whole, load_whole, e8, e9, View.read_writes_full]

end Cert.KernelIdeal.Block
-- ==== Proof.Array.lean ====
/- What the scratch holds after every grid point, and the array of results block by block. -/
module

public import proofs.«01_k».proof.Proof.Body
public import Idealize.ShloMosaic.Lib.StableHlo.RunRead

@[expose] public section

set_option maxRecDepth 65536

noncomputable section

namespace Cert.KernelIdeal.Block

open Cert.KernelIdeal Cert.KernelIdeal.Gen Idealize.ShloMosaic Idealize.ShloMosaic.TcCoe

variable {F : FTy → Type} [FloatOps F]
variable (m : (ℓ : Loc nD τ sig) → Buf (Elt F) ℓ)

/-- The grid's only coordinate is the point itself. -/
theorem index0 (t : Fin cfg0.N) : win0_0.index t 0 = t.val ∧ win0_0.index t 1 = 0 ∧ win0_0.index t 2 = 0 := by
  rcases fin_N0 t with rfl | rfl | rfl | rfl | rfl | rfl | rfl | rfl <;> decide

/-- At every point block 1 is the first layer's weights. -/
theorem whole1 (c : Dev nD) (t : Fin cfg0.N) : (iblk m c 1 t : Vec F S1024x2048 .f32) = m ((c : Thread nD τ).loc main_arg3) := by
  have hi : (win0_1.index t : Fin 2 → ℕ) = fun _ => 0 := by
    rcases fin_N0 t with rfl | rfl | rfl | rfl | rfl | rfl | rfl | rfl <;> decide
  rw [← V_main_arg3 m c]
  exact Memref.read_access_unit_zero (Elt F) main_arg3 (by rw [hi]; funext a; exact Nat.zero_mul _) _ _

/-- At every point block 2 is the word vectors. -/
theorem whole2 (c : Dev nD) (t : Fin cfg0.N) : (iblk m c 2 t : Vec F S80x300 .f32) = m ((c : Thread nD τ).loc main_arg2) := by
  have hi : (win0_2.index t : Fin 2 → ℕ) = fun _ => 0 := by
    rcases fin_N0 t with rfl | rfl | rfl | rfl | rfl | rfl | rfl | rfl <;> decide
  rw [← V_main_arg2 m c]
  exact Memref.read_access_unit_zero (Elt F) main_arg2 (by rw [hi]; funext a; exact Nat.zero_mul _) _ _

/-- At every point block 3 is the words' weights. -/
theorem whole3 (c : Dev nD) (t : Fin cfg0.N) : (iblk m c 3 t : Vec F S1024x300 .f32) = m ((c : Thread nD τ).loc main_arg4) := by
  have hi : (win0_3.index t : Fin 2 → ℕ) = fun _ => 0 := by
    rcases fin_N0 t with rfl | rfl | rfl | rfl | rfl | rfl | rfl | rfl <;> decide
  rw [← V_main_arg4 m c]
  exact Memref.read_access_unit_zero (Elt F) main_arg4 (by rw [hi]; funext a; exact Nat.zero_mul _) _ _

/-- At every point block 4 is the second layer's weights. -/
theorem whole4 (c : Dev nD) (t : Fin cfg0.N) : (iblk m c 4 t : Vec F S1024x1024 .f32) = m ((c : Thread nD τ).loc main_arg5) := by
  have hi : (win0_4.index t : Fin 2 → ℕ) = fun _ => 0 := by
    rcases fin_N0 t with rfl | rfl | rfl | rfl | rfl | rfl | rfl | rfl <;> decide
  rw [← V_main_arg5 m c]
  exact Memref.read_access_unit_zero (Elt F) main_arg5 (by rw [hi]; funext a; exact Nat.zero_mul _) _ _

/-- At every point block 5 is the last layer's weights. -/
theorem whole5 (c : Dev nD) (t : Fin cfg0.N) : (iblk m c 5 t : Vec F S1x1024 .f32) = m ((c : Thread nD τ).loc main_arg7) := by
  have hi : (win0_5.index t : Fin 2 → ℕ) = fun _ => 0 := by
    rcases fin_N0 t with rfl | rfl | rfl | rfl | rfl | rfl | rfl | rfl <;> decide
  rw [← V_main_arg7 m c]
  exact Memref.read_access_unit_zero (Elt F) main_arg7 (by rw [hi]; funext a; exact Nat.zero_mul _) _ _

/-- The features as the kernel is handed them: the fourteen by fourteen positions laid end to end. -/
theorem reshaped (c : Dev nD) : (V m c main_v0 : Vec F S8x2048x196 .f32)
    = shapeCast S8x2048x196 (m ((c : Thread nD τ).loc main_arg1) : Vec F S8x2048x14x14 .f32) shapeCasts_S8x2048x14x14_S8x2048x196 := by
  after_reads_simp
  rfl

/-- Block 0 at point `t` is image `t`: channel `d`, position `s`, in row `s / 14` and column `s % 14`. -/
theorem image (c : Dev nD) (t : Fin cfg0.N) (b : Fin 8) (hb : b.val = t.val) (z : Fin 1) (d : Fin 2048) (s : Fin 196) :
    (iblk m c 0 t : Vec F S1x2048x196 .f32) (ix3 z d s)
      = (m ((c : Thread nD τ).loc main_arg1) : Vec F S8x2048x14x14 .f32)
          (ix4 b d (⟨s.val / 14, by have := s.isLt; omega⟩ : Fin 14) (⟨s.val % 14, by omega⟩ : Fin 14)) := by
  have e : (iblk m c 0 t : Vec F S1x2048x196 .f32) (ix3 z d s) = (V m c main_v0 : Vec F S8x2048x196 .f32) (ix3 b d s) := by
    unfold iblk
    rw [View.read_apply]
    show V m c main_v0 _ = V m c main_v0 _
    congr 1
    funext a
    apply Fin.ext
    have hi := index0 t
    have hz := z.isLt
    match a with
    | ⟨0, _⟩ => show win0_0.index t 0 * 1 + 1 * z.val = b.val; rw [hi.1]; omega
    | ⟨1, _⟩ => show win0_0.index t 1 * 2048 + 1 * d.val = d.val; rw [hi.2.1]; omega
    | ⟨2, _⟩ => show win0_0.index t 2 * 196 + 1 * s.val = s.val; rw [hi.2.2]; omega
  rw [e, reshaped]
  pointwise

/-- The word vectors projected, end to end, as the first scratch keeps them. -/
def words (c : Dev nD) : Vec F S1x81920 .f32 :=
  flat (k0_pay2 (m ((c : Thread nD τ).loc main_arg2)) (m ((c : Thread nD τ).loc main_arg4)))

/-- The combined weights of the last two layers, as the second scratch keeps them. -/
def weights (c : Dev nD) : Vec F S1x1024 .f32 :=
  k0_pay89 (m ((c : Thread nD τ).loc main_arg7)) (m ((c : Thread nD τ).loc main_arg5))

/-- After every point the scratch holds what the first point stored, and the block is made from it. -/
theorem points (c : Dev nD) : ∀ (n : ℕ) (hn : n < cfg0.N), outsAt0 m c n hn
    = (blockOf (iblk m c 0 ⟨n, hn⟩) (m ((c : Thread nD τ).loc main_arg3)) (words m c) (weights m c), words m c, weights m c)
  | 0, hn => by
    refine (outsAt0_A m c ⟨0, hn⟩ rfl).trans ?_
    rw [out_first, words_first, weights_first, whole1, whole2, whole3, whole4, whole5]
    rfl
  | n + 1, hn => by
    have hN : cfg0.N = 8 := N_0
    refine (outsAt0_B m c ⟨n + 1, hn⟩ (by show ¬(n + 1) % 8 = 0; omega)).trans ?_
    have ih := points c n (Nat.lt_of_succ_lt hn)
    rw [out_later, whole1]
    unfold sout0_B_0 sout0_B_1
    show (blockOf (iblk m c 0 ⟨n + 1, hn⟩) _ (outsAt0 m c n _).2.1 (outsAt0 m c n _).2.2, (outsAt0 m c n _).2.1, (outsAt0 m c n _).2.2) = _
    rw [ih]

/-- The array of results at an image, a class and a channel. -/
theorem result (c : Dev nD) (b : Fin 8) (k : Fin 80) (d : Fin 2048) :
    (Value.G6 m c : Vec F S8x80x2048 .f32) (ix3 b k d)
      = blockOf (iblk m c 0 ⟨b.val, lt_of_lt_of_eq b.isLt N_0.symm⟩) (m ((c : Thread nD τ).loc main_arg3)) (words m c) (weights m c)
          (ix3 (0 : Fin 1) k d) := by
  have hb : b.val < cfg0.N := lt_of_lt_of_eq b.isLt N_0.symm
  have hp : Value.pt6Of (ix3 b k d) = b.val := by
    show 1 * (b.val / 1 - 0) + 1 * (k.val / 80 - 0) + 1 * (d.val / 2048 - 0) = b.val
    have := k.isLt; have := d.isLt; omega
  have hl : Value.loc6Of (ix3 b k d) = ix3 (0 : Fin 1) k d := by
    funext a
    apply Fin.ext
    have := k.isLt; have := d.isLt
    match a with
    | ⟨0, _⟩ => show b.val % 1 = 0; omega
    | ⟨1, _⟩ => show k.val % 80 = k.val; omega
    | ⟨2, _⟩ => show d.val % 2048 = d.val; omega
  have hs : ∀ (n : ℕ) (h : n < cfg0.N) (e : n = b.val), (Pipeline.accAt (fun n h => Value.stAt0 m c n h Value.junk0) (Value.stAt0 m c) 0 n (by omega)).1
      = blockOf (iblk m c 0 ⟨b.val, hb⟩) (m ((c : Thread nD τ).loc main_arg3)) (words m c) (weights m c) := by
    intro n h e
    subst e
    rw [← Value.outsAt0_sweep m c _ h, points]
  unfold Value.G6
  rw [dif_pos (by rw [hp]; exact hb), hl, hs _ (by rw [hp]; exact hb) hp]

end Cert.KernelIdeal.Block
-- ==== Proof.Softmax.lean ====
/- The equation behind the kernel, in real arithmetic extended by the two infinities: a softmax does not change when a
   constant is added to all its arguments, and the order of the last two linear layers may be exchanged. -/
module

public import Idealize.ShloMosaic.Lib.Pointwise
public import Idealize.ShloMosaic.Lib.IdealHost

@[expose] public section

noncomputable section

namespace Cert.Softmax

open Idealize.ShloMosaic

/-- The greatest of finitely many values, starting from minus infinity. -/
def top {n : ℕ} (x : Fin n → EReal) : EReal :=
  Finset.fold max (Ideal.ofBits .f32 0xFF800000#32) x Finset.univ

/-- The softmax of finitely many values. -/
def soft {n : ℕ} (x : Fin n → EReal) (s : Fin n) : EReal :=
  Ideal.div (Ideal.exp (x s - top x)) (∑ u, Ideal.exp (x u - top x))

/-- The starting value is minus infinity. -/
theorem start_eq : Ideal.ofBits .f32 0xFF800000#32 = (⊥ : EReal) := by
  simp [Ideal.ofBits, Ideal.ieee]

/-- The greatest value is the supremum. -/
theorem top_eq_sup {n : ℕ} (x : Fin n → EReal) : top x = Finset.univ.sup x := by
  unfold top; rw [start_eq]; rfl

/-- The greatest of real numbers, there being one, is a real number. -/
theorem top_real {n : ℕ} (x : Fin (n + 1) → ℝ) : ∃ r : ℝ, top (fun s => (x s : EReal)) = (r : EReal) := by
  obtain ⟨u, -, hu⟩ := Finset.exists_mem_eq_sup' (s := (Finset.univ : Finset (Fin (n + 1)))) Finset.univ_nonempty (fun s => (x s : EReal))
  refine ⟨x u, ?_⟩
  rw [top_eq_sup, ← Finset.sup'_eq_sup Finset.univ_nonempty, hu]

/-- Adding a real constant to every value adds it to the greatest. -/
theorem top_shift {n : ℕ} (x : Fin (n + 1) → ℝ) (k : ℝ) :
    top (fun s => (x s : EReal) + (k : EReal)) = top (fun s => (x s : EReal)) + (k : EReal) := by
  rw [top_eq_sup, top_eq_sup, ← Finset.sup'_eq_sup Finset.univ_nonempty, ← Finset.sup'_eq_sup Finset.univ_nonempty]
  have hm : Monotone fun y : EReal => y + (k : EReal) := fun a b h => add_le_add h le_rfl
  exact (Finset.comp_sup'_eq_sup'_comp Finset.univ_nonempty (fun y : EReal => y + (k : EReal)) (fun a b => hm.map_max)).symm

/-- A softmax does not change when a real constant is added to all its real arguments. -/
theorem soft_shift {n : ℕ} (x : Fin (n + 1) → ℝ) (k : ℝ) (s : Fin (n + 1)) :
    soft (fun s => (x s : EReal) + (k : EReal)) s = soft (fun s => (x s : EReal)) s := by
  obtain ⟨r, hr⟩ := top_real x
  have h : ∀ u, (x u : EReal) + (k : EReal) - (top (fun s => (x s : EReal)) + (k : EReal)) = (x u : EReal) - top (fun s => (x s : EReal)) := by
    intro u
    rw [hr, ← EReal.coe_add, ← EReal.coe_add, ← EReal.coe_sub, ← EReal.coe_sub]
    congr 1; ring
  unfold soft
  rw [top_shift]
  simp only [h]

/-- A sum of real numbers is their real sum. -/
theorem coe_sum {ι : Type*} (u : Finset ι) (f : ι → ℝ) : ((∑ i ∈ u, f i : ℝ) : EReal) = ∑ i ∈ u, (f i : EReal) := by
  classical
  induction u using Finset.induction_on with
  | empty => simp
  | insert a u ha ih => rw [Finset.sum_insert ha, Finset.sum_insert ha, EReal.coe_add, ih]

/-- The hyperbolic tangent of any extended real is a real number. -/
theorem tanh_real (x : EReal) : ∃ r : ℝ, Ideal.tanh x = (r : EReal) := by
  induction x using EReal.rec with
  | bot => exact ⟨-1, rfl⟩
  | top => exact ⟨1, rfl⟩
  | coe r => exact ⟨Real.tanh r, rfl⟩

/-- The last two layers in either order: with real activations `t`, second-layer weights `w` and bias `b`, last-layer
weights `a` and bias `d`, applying the layers one after the other is applying the combined weights and adding a constant. -/
theorem layers {p q : ℕ} (t : Fin p → ℝ) (w : Fin q → Fin p → ℝ) (b a : Fin q → ℝ) (d : ℝ) :
    (∑ n, ((∑ m, (t m : EReal) * (w n m : EReal)) + (b n : EReal)) * (a n : EReal)) + (d : EReal)
      = ((∑ m, t m * ∑ n, a n * w n m : ℝ) : EReal) + ((∑ n, b n * a n + d : ℝ) : EReal) := by
  have h : ∀ n, ((∑ m, (t m : EReal) * (w n m : EReal)) + (b n : EReal)) * (a n : EReal)
      = (((∑ m, t m * w n m) + b n) * a n : ℝ) := by
    intro n
    rw [EReal.coe_mul, EReal.coe_add, coe_sum]
    simp only [EReal.coe_mul]
  simp only [h]
  rw [← coe_sum, ← EReal.coe_add, ← EReal.coe_add]
  congr 1
  simp only [add_mul, Finset.sum_add_distrib, Finset.sum_mul, Finset.mul_sum]
  rw [Finset.sum_comm]
  have e : ∀ y n, t y * w n y * a n = t y * (a n * w n y) := fun y n => by ring
  simp only [e]
  ring

end Cert.Softmax
-- ==== Proof.Coefs.lean ====
/- The block of a grid point at exact arithmetic: each coefficient as a sum over the 1024 lanes, and the block as a sum
   over the 196 positions. -/
module

public import proofs.«01_k».proof.Proof.Array
public import proofs.«01_k».proof.Proof.Softmax

@[expose] public section

set_option maxRecDepth 16384

noncomputable section

namespace Cert.KernelIdeal.Block

open Cert.KernelIdeal Cert.KernelIdeal.Gen Idealize.ShloMosaic Idealize.ShloMosaic.TcCoe

/-- The projected features at a position and a lane. -/
theorem feat_apply (x0 : Vec Ideal S1x2048x196 .f32) (x1 : Vec Ideal S1024x2048 .f32) (s : Fin 196) (l : Fin 1024) :
    feat x0 x1 (ix2 s l) = ∑ d : Fin 2048, x0 (ix3 0 d s) * x1 (ix2 l d) := by
  pointwise [feat]

/-- Every copy of the projected features is the same. -/
theorem rep_apply (f : FVec Ideal S196x1024 .f32) (s : Fin 196) (l : Fin 16384) :
    rep f (ix2 s l) = f (ix2 s (⟨l.val % 1024, by omega⟩ : Fin 1024)) := by
  unfold rep
  have hl := l.isLt
  refine concatenate_ofFn_apply (t := S196x16384) (s₁ := S196x1024) (1 : Fin 2) (fun _ : Fin 16 => f) _ rfl 1024 rfl (ix2 s l) ⟨l.val / 1024, by omega⟩ rfl (ix2 s _) rfl ?_
  intro b hb
  match b with
  | ⟨0, _⟩ => rfl
  | ⟨1, _⟩ => exact absurd rfl hb

/-- A group's tile at a position and a lane. -/
theorem tile_apply (r : FVec Ideal S196x16384 .f32) (fd : Vec Ideal S1x81920 .f32) (g : Fin 5) (s : Fin 196) (l : Fin 16384)
    (l' : Fin 81920) (hl : l'.val = 16384 * g.val + l.val) :
    tile r fd g (ix2 s l) = Ideal.tanh (r (ix2 s l) * fd (ix2 0 l')) := by
  rw [show l' = ⟨16384 * g.val + l.val, by have := g.isLt; have := l.isLt; omega⟩ from Fin.ext hl]
  unfold tile
  pointwise

/-- A class's column at a position. -/
theorem col_apply (t : FVec Ideal S196x16384 .f32) (v : Vec Ideal S1x1024 .f32) (k : Fin 16) (s : Fin 196) (z : Fin 1) :
    col t v k (ix2 s z) = ∑ j : Fin 1024,
      t (ix2 s (⟨1024 * k.val + j.val, by have := k.isLt; have := j.isLt; omega⟩ : Fin 16384)) * v (ix2 0 j) := by
  pointwise [col]

/-- A coefficient is its class's column's. -/
theorem coef_apply (r : FVec Ideal S196x16384 .f32) (fd : Vec Ideal S1x81920 .f32) (v : Vec Ideal S1x1024 .f32) (s : Fin 196) (c : Fin 80) :
    coef r fd v (ix2 s c) = col (tile r fd (grp c)) v (pos c) (ix2 s (0 : Fin 1)) := by
  unfold coef
  refine concatenate_ofFn_unit_apply (t := S196x80) (s₁ := S196x1) (1 : Fin 2) (fun c : Fin 80 => col (tile r fd (grp c)) v (pos c)) _ rfl rfl (ix2 s c) c rfl (ix2 s 0) ?_
  intro b hb
  match b with
  | ⟨0, _⟩ => rfl
  | ⟨1, _⟩ => exact absurd rfl hb

/-- The projected word vectors at a class and a lane. -/
theorem words_apply (x2 : Vec Ideal S80x300 .f32) (x3 : Vec Ideal S1024x300 .f32) (c : Fin 80) (l : Fin 1024) :
    k0_pay2 x2 x3 (ix2 c l) = ∑ k : Fin 300, x2 (ix2 c k) * x3 (ix2 l k) := by
  pointwise [k0_pay2]

/-- The combined weights at a lane. -/
theorem weights_apply (x5 : Vec Ideal S1x1024 .f32) (x4 : Vec Ideal S1024x1024 .f32) (z : Fin 1) (l : Fin 1024) :
    k0_pay89 x5 x4 (ix2 z l) = ∑ n : Fin 1024, x5 (ix2 z n) * x4 (ix2 n l) := by
  pointwise [k0_pay89]

/-- The block at a class and a channel. -/
theorem attend_apply (x0 : Vec Ideal S1x2048x196 .f32) (w : FVec Ideal S196x80 .f32) (c : Fin 80) (d : Fin 2048) :
    attend x0 w (ix3 (0 : Fin 1) c d) = ∑ s : Fin 196, Softmax.soft (fun u => w (ix2 u c)) s * x0 (ix3 0 d s) := by
  pointwise [attend, k0_pay1]
  rfl

/-- A coefficient as a sum over the lanes. -/
theorem coef_sum (f : FVec Ideal S196x1024 .f32) (w : FVec Ideal S80x1024 .f32) (v : Vec Ideal S1x1024 .f32) (s : Fin 196) (c : Fin 80) :
    coef (rep f) (flat w) v (ix2 s c) = ∑ l : Fin 1024, Ideal.tanh (f (ix2 s l) * w (ix2 c l)) * v (ix2 0 l) := by
  rw [coef_apply, col_apply]
  refine Finset.sum_congr rfl fun l _ => ?_
  have hc := c.isLt
  have hl := l.isLt
  have hg : (grp c).val = c.val / 16 := rfl
  have hp : (pos c).val = c.val % 16 := rfl
  rw [tile_apply _ _ _ _ _ ⟨1024 * c.val + l.val, by omega⟩ (by show 1024 * c.val + l.val = 16384 * (grp c).val + (1024 * (pos c).val + l.val); omega),
    rep_apply]
  have e1 : (⟨(1024 * (pos c).val + l.val) % 1024, by omega⟩ : Fin 1024) = l := Fin.ext (by show (1024 * (pos c).val + l.val) % 1024 = l.val; omega)
  have e2 : flat w (ix2 (0 : Fin 1) (⟨1024 * c.val + l.val, by omega⟩ : Fin 81920)) = w (ix2 c l) := by
    have ea : (⟨(1024 * c.val + l.val) / 1024, by omega⟩ : Fin 80) = c := Fin.ext (by show (1024 * c.val + l.val) / 1024 = c.val; omega)
    have eb : (⟨(1024 * c.val + l.val) % 1024, by omega⟩ : Fin 1024) = l := Fin.ext (by show (1024 * c.val + l.val) % 1024 = l.val; omega)
    show w (ix2 (⟨(1024 * c.val + l.val) / 1024, _⟩ : Fin 80) (⟨(1024 * c.val + l.val) % 1024, _⟩ : Fin 1024)) = _
    rw [ea, eb]
  rw [e2]
  show Ideal.tanh (f (ix2 s (⟨(1024 * (pos c).val + l.val) % 1024, _⟩ : Fin 1024)) * _) * _ = _
  rw [e1]

end Cert.KernelIdeal.Block
-- ==== Proof.Formula.lean ====
/- The attended features as one formula of the arrays, with the scores in the kernel's form and in the reference's, and
   the equality of their softmaxes where the last two layers' weights and biases are real numbers. -/
module

public import proofs.«01_k».proof.Proof.Softmax

@[expose] public section

noncomputable section

namespace Cert.Formula

open Idealize.ShloMosaic Cert.Softmax

variable (img : Vec Ideal ⟨4, ![8, 2048, 14, 14]⟩ .f32) (word : Vec Ideal ⟨2, ![80, 300]⟩ .f32)
variable (w1 : Vec Ideal ⟨2, ![1024, 2048]⟩ .f32) (w2 : Vec Ideal ⟨2, ![1024, 300]⟩ .f32)
variable (w3 : Vec Ideal ⟨2, ![1024, 1024]⟩ .f32) (b3 : Vec Ideal ⟨1, ![1024]⟩ .f32)
variable (wa : Vec Ideal ⟨2, ![1, 1024]⟩ .f32) (ba : Vec Ideal ⟨1, ![1]⟩ .f32)

/-- A feature of an image at a position counted row by row. -/
def pixel (b : Fin 8) (d : Fin 2048) (s : Fin 196) : EReal :=
  img (ix4 b d (⟨s.val / 14, by have := s.isLt; omega⟩ : Fin 14) (⟨s.val % 14, by omega⟩ : Fin 14))

/-- The activation of an image's position and a class in one lane. -/
def activation (b : Fin 8) (k : Fin 80) (s : Fin 196) (l : Fin 1024) : EReal :=
  Ideal.tanh ((∑ d : Fin 2048, pixel img b d s * w1 (ix2 l d)) * ∑ j : Fin 300, word (ix2 k j) * w2 (ix2 l j))

/-- The kernel's score: the last two layers' weights combined first, the biases left out. -/
def kernelScore (b : Fin 8) (k : Fin 80) (s : Fin 196) : EReal :=
  ∑ l : Fin 1024, activation img word w1 w2 b k s l * ∑ n : Fin 1024, wa (ix2 0 n) * w3 (ix2 n l)

/-- The reference's score: one layer after the other, with the biases. -/
def referenceScore (b : Fin 8) (k : Fin 80) (s : Fin 196) : EReal :=
  (∑ n : Fin 1024, ((∑ l : Fin 1024, activation img word w1 w2 b k s l * w3 (ix2 n l)) + b3 (ix1 n)) * wa (ix2 0 n)) + ba (ix1 0)

/-- The features of an image averaged with the softmax of the scores. -/
def attended (score : Fin 196 → EReal) (b : Fin 8) (d : Fin 2048) : EReal :=
  ∑ s : Fin 196, soft score s * pixel img b d s

/-- With real weights and biases in the last two layers the two scores attend alike. -/
theorem attended_eq (h3 : ∀ n l, ∃ r : ℝ, w3 (ix2 n l) = (r : EReal)) (hb : ∀ n, ∃ r : ℝ, b3 (ix1 n) = (r : EReal))
    (ha : ∀ n, ∃ r : ℝ, wa (ix2 0 n) = (r : EReal)) (hd : ∃ r : ℝ, ba (ix1 0) = (r : EReal)) (b : Fin 8) (k : Fin 80) (d : Fin 2048) :
    attended img (kernelScore img word w1 w2 w3 wa b k) b d = attended img (referenceScore img word w1 w2 w3 b3 wa ba b k) b d := by
  choose w hw using h3
  choose β hβ using hb
  choose a ha using ha
  obtain ⟨δ, hδ⟩ := hd
  choose t ht using fun s l => tanh_real ((∑ d : Fin 2048, pixel img b d s * w1 (ix2 l d)) * ∑ j : Fin 300, word (ix2 k j) * w2 (ix2 l j))
  have ek : kernelScore img word w1 w2 w3 wa b k = fun s => ((∑ l, t s l * ∑ n, a n * w n l : ℝ) : EReal) := by
    funext s
    unfold kernelScore activation
    simp only [ht, hw, ha]
    rw [coe_sum]
    simp only [EReal.coe_mul, coe_sum]
  have er : referenceScore img word w1 w2 w3 b3 wa ba b k
      = fun s => ((∑ l, t s l * ∑ n, a n * w n l : ℝ) : EReal) + ((∑ n, β n * a n + δ : ℝ) : EReal) := by
    funext s
    unfold referenceScore activation
    simp only [ht, hw, ha, hβ, hδ]
    exact layers (t s) w β a δ
  unfold attended
  rw [ek, er]
  exact Finset.sum_congr rfl fun s _ => by rw [soft_shift]

end Cert.Formula
-- ==== Proof.KernelReads.lean ====
/- The kernel's result at an index is the attended features with the kernel's scores. -/
module

public import proofs.«01_k».proof.Proof.Coefs
public import proofs.«01_k».proof.Proof.Formula

@[expose] public section

set_option maxRecDepth 16384

noncomputable section

namespace Cert.KernelIdeal.Block

open Cert.KernelIdeal Cert.KernelIdeal.Gen Idealize.ShloMosaic Idealize.ShloMosaic.TcCoe

/-- The kernel's result at an image, a class and a feature. -/
theorem reads (m : (ℓ : Loc nD τ sig) → Buf (Elt Ideal) ℓ) (c : Dev nD) (b : Fin 8) (k : Fin 80) (d : Fin 2048) :
    (Value.G6 m c : Vec Ideal S8x80x2048 .f32) (ix3 b k d)
      = Formula.attended (m (c.tc.loc main_arg1))
          (Formula.kernelScore (m (c.tc.loc main_arg1)) (m (c.tc.loc main_arg2)) (m (c.tc.loc main_arg3)) (m (c.tc.loc main_arg4))
            (m (c.tc.loc main_arg5)) (m (c.tc.loc main_arg7)) b k) b d := by
  rw [result]
  unfold blockOf words weights
  rw [attend_apply]
  simp only [coef_sum, feat_apply, words_apply, weights_apply, image m c ⟨b.val, lt_of_lt_of_eq b.isLt N_0.symm⟩ b rfl]
  rfl

end Cert.KernelIdeal.Block
-- ==== Proof.ReferenceReads.lean ====
/- The reference's result at an index is the attended features with the reference's scores. -/
module

public import proofs.«01_k».proof.Proof.Gen.ReferenceIdeal.Run
public import proofs.«01_k».proof.Proof.Formula
public import Idealize.ShloMosaic.Lib.Tactic.CleanTypes

@[expose] public section

noncomputable section

namespace Cert.ReferenceIdeal.Read

open Cert.ReferenceIdeal Idealize.ShloMosaic Idealize.ShloMosaic.TcCoe

/-- A sum over rows and columns of an image is one over its positions. -/
theorem sum_positions (f : Fin 14 → Fin 14 → EReal) :
    ∑ h, ∑ w, f h w = ∑ s : Fin 196, f ⟨s.val / 14, by have := s.isLt; omega⟩ ⟨s.val % 14, by omega⟩ := by
  rw [← Fintype.sum_prod_type' f]
  exact (Equiv.sum_comp (finProdFinEquiv (m := 14) (n := 14)).symm fun p => f p.1 p.2).symm

/-- Minus infinity leaves the greater of two values alone. -/
theorem max_start (x : EReal) : max (Ideal.ofBits .f32 0xFF800000#32) x = x := by
  rw [Softmax.start_eq]; exact max_eq_right bot_le

/-- The reference's result at an image, a class and a feature. -/
theorem reads (m : (ℓ : Loc nD τ sig) → Buf (Elt Ideal) ℓ) (c : Dev nD) (b : Fin 8) (k : Fin 80) (d : Fin 2048) :
    (Value.res_main_v32 m c : Vec Ideal S8x80x2048 .f32) (ix3 b k d)
      = Formula.attended (m (c.tc.loc main_arg1))
          (Formula.referenceScore (m (c.tc.loc main_arg1)) (m (c.tc.loc main_arg2)) (m (c.tc.loc main_arg3)) (m (c.tc.loc main_arg4))
            (m (c.tc.loc main_arg5)) (m (c.tc.loc main_arg6)) (m (c.tc.loc main_arg7)) (m (c.tc.loc main_arg8)) b k) b d := by
  unfold Value.res_main_v32
  clean_types
  pointwise
  rw [sum_positions]
  simp only [max_start]
  rfl

end Cert.ReferenceIdeal.Read
-- ==== Proof.Weights.lean ====
/- The precondition read element by element: the last two layers' weights and biases are real numbers. -/
module

public import proofs.«01_k».proof.Proof.Gen.Pre_finite_weights
public import Idealize.ShloMosaic.Lib.ReduceAll
public import Idealize.ShloMosaic.Lib.Affine
public import Idealize.ShloMosaic.Lib.Pointwise

@[expose] public section

noncomputable section

namespace Cert.Pre_finite_weights.Read

open Cert.Pre_finite_weights Idealize.ShloMosaic

/-- The bound is infinity. -/
theorem bound_eq : Ideal.ofBits .f32 0x7F800000#32 = (⊤ : EReal) := by
  simp [Ideal.ofBits, Ideal.ieee]

/-- An extended real whose absolute value compares below infinity is a real number. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [bound_eq] at h
  induction x using EReal.rec with
  | coe r => exact ⟨r, rfl⟩
  | bot => exact absurd h (by show ¬ Ideal.cmp .olt (max (⊥ : EReal) (-⊥)) ⊤ = 1#1; simp [Ideal.cmp])
  | top => exact absurd h (by show ¬ Ideal.cmp .olt (max (⊤ : EReal) (-⊤)) ⊤ = 1#1; simp [Ideal.cmp])

attribute [local instance] Gen.facts

/-- Where the precondition holds every weight and bias it names is a real number. -/
theorem reals (a0 : IVec S_ 32) (a1 : FVec Ideal S8x2048x14x14 .f32) (a2 : FVec Ideal S80x300 .f32) (a3 : FVec Ideal S1024x2048 .f32)
    (a4 : FVec Ideal S1024x300 .f32) (a5 : FVec Ideal S1024x1024 .f32) (a6 : FVec Ideal S1024 .f32) (a7 : FVec Ideal S1x1024 .f32) (a8 : FVec Ideal S1 .f32)
    (h : fn a0 a1 a2 a3 a4 a5 a6 a7 a8 = fun _ => 1#1) :
    (∀ i, ∃ r : ℝ, a5 i = (r : EReal)) ∧ (∀ i, ∃ r : ℝ, a6 i = (r : EReal)) ∧ (∀ i, ∃ r : ℝ, a7 i = (r : EReal)) ∧ (∀ i, ∃ r : ℝ, a8 i = (r : EReal)) := by
  have e := congrFun h (Shape.Idx.first (by decide))
  dsimp only [fn, fn_part1, andi] at e
  obtain ⟨e, e8⟩ := IntOp.andi_eq_one.1 e
  obtain ⟨e, e7⟩ := IntOp.andi_eq_one.1 e
  obtain ⟨e5, e6⟩ := IntOp.andi_eq_one.1 e
  exact ⟨fun i => real_of_lt _ (Host.reduce_andi_all _ _ _ _ _ e5 i), fun i => real_of_lt _ (Host.reduce_andi_all _ _ _ _ _ e6 i),
    fun i => real_of_lt _ (Host.reduce_andi_all _ _ _ _ _ e7 i), fun i => real_of_lt _ (Host.reduce_andi_all _ _ _ _ _ e8 i)⟩

end Cert.Pre_finite_weights.Read
-- ==== Proof.lean ====
/- The claims put together: the frames and runs come from the generated modules, the equation of the results from the
   readings of both sides at an index and the formula they share. -/
module

public import proofs.«01_k».proof.Defs
public import proofs.«01_k».proof.Proof.Gen.Kernel.Frame
public import proofs.«01_k».proof.Proof.Gen.KernelIdeal.Value
public import proofs.«01_k».proof.Proof.Gen.Pre_finite_weights
public import proofs.«01_k».proof.Proof.Gen.ReferenceIdeal.Run
public import Idealize.ShloMosaic.Adequacy
public import Idealize.ShloMosaic.Init
public import Idealize.ShloMosaic.Lib.Quiescent
public import proofs.«01_k».proof.Proof.KernelReads
public import proofs.«01_k».proof.Proof.ReferenceReads
public import proofs.«01_k».proof.Proof.Weights

@[expose] public section

noncomputable section

namespace Cert.Proof

open Idealize.ShloMosaic Idealize.SL.Sem

/-- The reference runs and ends with its arguments unchanged and its counters zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same from memories that meet the precondition. -/
theorem quiescent_ReferenceIdeal_pre [Cert.Pre_finite_weights.Facts] : quiescent_ReferenceIdeal_pre_finite_weights := fun m ρ _ =>
  quiescent_ReferenceIdeal m ρ trivial

attribute [local instance] Cert.Pre_finite_weights.Gen.facts

/-- With real weights and biases in the last two layers, the reference's result on equal arguments is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_finite_weights m) (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.res_main_v32 (F := Ideal) m' c = Cert.KernelIdeal.Value.G6 (F := Ideal) m c := by
  obtain ⟨-, e1, e2, e3, e4, e5, e6, e7, e8⟩ := hagree
  obtain ⟨h5, h6, h7, h8⟩ := Cert.Pre_finite_weights.Read.reals _ _ _ _ _ _ _ _ _ (hpre c)
  funext i
  obtain ⟨b, k, d, rfl⟩ : ∃ (b : Fin 8) (k : Fin 80) (d : Fin 2048), i = ix3 b k d := ⟨i 0, i 1, i 2, by
    funext a; match a with | ⟨0, _⟩ => rfl | ⟨1, _⟩ => rfl | ⟨2, _⟩ => rfl⟩
  refine (Cert.ReferenceIdeal.Read.reads m' c b k d).trans (Eq.trans ?_ (Cert.KernelIdeal.Block.reads m c b k d).symm)
  rw [e1, e2, e3, e4, e5, e6, e7, e8]
  exact (Formula.attended_eq _ _ _ _ _ _ _ _ (fun _ _ => h5 _) (fun _ => h6 _) (fun _ => h7 _) (h8 _) b k d).symm

/-- The kernel and the reference run and end with equal results. -/
theorem algebraic_KernelIdeal_ReferenceIdeal : algebraic_KernelIdeal_ReferenceIdeal_pre_finite_weights := by
  intro m ρ m' ρ' hpre hagree
  refine ⟨_, Cert.KernelIdeal.Value.run (F := Ideal) m ρ, ?_⟩
  exact (θ_run Cert.ReferenceIdeal.defs _ _).mono (fun _ h c => ⟨(h c).1.trans (results_eq m m' hpre c (hagree c)), (h c).2⟩)
    (Cert.ReferenceIdeal.Value.run (F := Ideal) m' ρ')

/-- Every claim. -/
theorem claim : Cert.Claim := ⟨Cert.Kernel.Gen.facts, Cert.KernelIdeal.Gen.facts, Cert.ReferenceIdeal.Gen.facts, Cert.Pre_finite_weights.Gen.facts,
  fun m ρ _ => Cert.Kernel.Gen.frame m ρ, fun m ρ _ => Cert.KernelIdeal.Gen.frame m ρ, fun m ρ _ => Cert.KernelIdeal.Gen.frame m ρ, quiescent_ReferenceIdeal, quiescent_ReferenceIdeal_pre, (trivial : preserves_Kernel_KernelIdeal), algebraic_KernelIdeal_ReferenceIdeal⟩

end Cert.Proof

end
